-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_initial_affine [hPre_initial_affine : Cert.Pre_initial_affine.Facts] (m : (ℓ : Loc Cert.KernelIdeal.nD Cert.KernelIdeal.τ Cert.KernelIdeal.sig) → Buf (Elt Ideal) ℓ) : Prop :=
  ∀ c : Dev Cert.KernelIdeal.nD,
    (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.1 = (fun _ => 1#1)
    ∧ (Cert.Pre_initial_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))).2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_initial_affine [hPre_initial_affine : Cert.Pre_initial_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.1 = (fun _ => 1#1)
    ∧ (Cert.Pre_initial_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))).2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_initial_affine [hKernelIdeal : Cert.KernelIdeal.Facts] [hPre_initial_affine : Cert.Pre_initial_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_initial_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_initial_affine [hReferenceIdeal : Cert.ReferenceIdeal.Facts] [hPre_initial_affine : Cert.Pre_initial_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_initial_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_initial_affine [hKernelIdeal : Cert.KernelIdeal.Facts] [hReferenceIdeal : Cert.ReferenceIdeal.Facts] [hPre_initial_affine : Cert.Pre_initial_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_initial_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_initial_affine : Cert.Pre_initial_affine.Facts),
    quiescent_Kernel (hKernel := hKernel)
    ∧ quiescent_KernelIdeal (hKernelIdeal := hKernelIdeal)
    ∧ quiescent_KernelIdeal_pre_initial_affine (hKernelIdeal := hKernelIdeal) (hPre_initial_affine := hPre_initial_affine)
    ∧ quiescent_ReferenceIdeal (hReferenceIdeal := hReferenceIdeal)
    ∧ quiescent_ReferenceIdeal_pre_initial_affine (hReferenceIdeal := hReferenceIdeal) (hPre_initial_affine := hPre_initial_affine)
    ∧ preserves_Kernel_KernelIdeal
    ∧ algebraic_KernelIdeal_ReferenceIdeal_pre_initial_affine (hKernelIdeal := hKernelIdeal) (hReferenceIdeal := hReferenceIdeal) (hPre_initial_affine := hPre_initial_affine)
-- ==== Pre_initial_affine.lean ====
abbrev S32x1024x32x9 : Shape := ⟨4, ![32, 1024, 32, 9]⟩
abbrev S32x1024x32 : Shape := ⟨3, ![32, 1024, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S32x1024x32x9 : S_.BroadcastsInDim S32x1024x32x9 (![] : Fin 0 → Fin S32x1024x32x9.rank)
  bcast_S_S64 : S_.BroadcastsInDim S64 (![] : Fin 0 → Fin S64.rank)
  bcast_S_S128 : S_.BroadcastsInDim S128 (![] : Fin 0 → Fin S128.rank)

variable [Facts]

def fn_part1 {F : FTy → Type} [FloatOps F] (main_arg5 : FVec F S64 .f32) (main_arg9 : FVec F S64 .f32) (main_arg12 : FVec F S64 .f32) (main_arg13 : FVec F S64 .f32) (main_arg14 : FVec F S64 .f32) (main_arg15 : FVec F S64 .f32) (main_v2 : IVec S32x1024x32x9 1) (main_v4 : IVec S64 1) (main_v6 : IVec S64 1) (main_v8 : IVec S64 1) (main_v10 : IVec S128 1) (main_v12 : IVec S64 1) (main_v14 : IVec S64 1) (main_v15 : FVec F S64 .f32) : IVec S32x1024x32x9 1 × IVec S64 1 × IVec S64 1 × IVec S64 1 × IVec S128 1 × IVec S64 1 × IVec S64 1 × IVec S64 1 × IVec S64 1 × IVec S64 1 × IVec S64 1 × IVec S64 1 × IVec S64 1 :=
  let main_v16 : IVec S64 1 := cmpf .oeq main_arg12 main_v15
  let main_cst_7 : FVec F S_ .f32 := constant S_ .f32 0x3F800000#32
  let main_v17 : FVec F S64 .f32 := broadcastInDim S64 ![] bcast_S_S64 main_cst_7
  let main_v18 : IVec S64 1 := cmpf .oeq main_arg14 main_v17
  let main_cst_8 : FVec F S_ .f32 := constant S_ .f32 0x00000000#32
  let main_v19 : FVec F S64 .f32 := broadcastInDim S64 ![] bcast_S_S64 main_cst_8
  let main_v20 : IVec S64 1 := cmpf .oeq main_arg5 main_v19
  let main_cst_9 : FVec F S_ .f32 := constant S_ .f32 0x00000000#32
  let main_v21 : FVec F S64 .f32 := broadcastInDim S64 ![] bcast_S_S64 main_cst_9
  let main_v22 : IVec S64 1 := cmpf .oeq main_arg9 main_v21
  let main_cst_10 : FVec F S_ .f32 := constant S_ .f32 0x00000000#32
  let main_v23 : FVec F S64 .f32 := broadcastInDim S64 ![] bcast_S_S64 main_cst_10
  let main_v24 : IVec S64 1 := cmpf .oeq main_arg13 main_v23
  let main_cst_11 : FVec F S_ .f32 := constant S_ .f32 0x00000000#32
  let main_v25 : FVec F S64 .f32 := broadcastInDim S64 ![] bcast_S_S64 main_cst_11
  let main_v26 : IVec S64 1 := cmpf .oeq main_arg15 main_v25
  (main_v2, main_v4, main_v6, main_v8, main_v10, main_v12, main_v14, main_v16, main_v18, main_v20, main_v22, main_v24, main_v26)

def fn {F : FTy → Type} [FloatOps F] (main_arg0 : FVec F S32x1024x32x9 .f32) (main_arg1 : IVec S32x1024x32 1) (main_arg2 : FVec F S9x64 .f32) (main_arg3 : FVec F S64 .f32) (main_arg4 : FVec F S64 .f32) (main_arg5 : FVec F S64 .f32) (main_arg6 : FVec F S128x64 .f32) (main_arg7 : FVec F S64 .f32) (main_arg8 : FVec F S64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x128 .f32) (main_arg17 : FVec F S128 .f32) : IVec S32x1024x32x9 1 × IVec S64 1 × IVec S64 1 × IVec S64 1 × IVec S128 1 × IVec S64 1 × IVec S64 1 × IVec S64 1 × IVec S64 1 × IVec S64 1 × IVec S64 1 × IVec S64 1 × IVec S64 1 :=
  let main_v0 : FVec F S32x1024x32x9 .f32 := Host.absf main_arg0
  let main_cst : FVec F S_ .f32 := constant S_ .f32 0x7F800000#32
  let main_v1 : FVec F S32x1024x32x9 .f32 := broadcastInDim S32x1024x32x9 ![] bcast_S_S32x1024x32x9 main_cst
  let main_v2 : IVec S32x1024x32x9 1 := cmpf .olt main_v0 main_v1
  let main_cst_0 : FVec F S_ .f32 := constant S_ .f32 0x00000000#32
  let main_v3 : FVec F S64 .f32 := broadcastInDim S64 ![] bcast_S_S64 main_cst_0
  let main_v4 : IVec S64 1 := cmpf .oeq main_arg3 main_v3
  let main_cst_1 : FVec F S_ .f32 := constant S_ .f32 0x00000000#32
  let main_v5 : FVec F S64 .f32 := broadcastInDim S64 ![] bcast_S_S64 main_cst_1
  let main_v6 : IVec S64 1 := cmpf .oeq main_arg7 main_v5
  let main_cst_2 : FVec F S_ .f32 := constant S_ .f32 0x00000000#32
  let main_v7 : FVec F S64 .f32 := broadcastInDim S64 ![] bcast_S_S64 main_cst_2
  let main_v8 : IVec S64 1 := cmpf .oeq main_arg11 main_v7
  let main_cst_3 : FVec F S_ .f32 := constant S_ .f32 0x00000000#32
  let main_v9 : FVec F S128 .f32 := broadcastInDim S128 ![] bcast_S_S128 main_cst_3
  let main_v10 : IVec S128 1 := cmpf .oeq main_arg17 main_v9
  let main_cst_4 : FVec F S_ .f32 := constant S_ .f32 0x3F800000#32
  let main_v11 : FVec F S64 .f32 := broadcastInDim S64 ![] bcast_S_S64 main_cst_4
  let main_v12 : IVec S64 1 := cmpf .oeq main_arg4 main_v11
  let main_cst_5 : FVec F S_ .f32 := constant S_ .f32 0x3F800000#32
  let main_v13 : FVec F S64 .f32 := broadcastInDim S64 ![] bcast_S_S64 main_cst_5
  let main_v14 : IVec S64 1 := cmpf .oeq main_arg8 main_v13
  let main_cst_6 : FVec F S_ .f32 := constant S_ .f32 0x3F800000#32
  let main_v15 : FVec F S64 .f32 := broadcastInDim S64 ![] bcast_S_S64 main_cst_6
  fn_part1 (F := F) main_arg5 main_arg9 main_arg12 main_arg13 main_arg14 main_arg15 main_v2 main_v4 main_v6 main_v8 main_v10 main_v12 main_v14 main_v15
-- ==== Kernel.lean ====
abbrev S32x1024x32x9 : Shape := ⟨4, ![32, 1024, 32, 9]⟩
abbrev S32x1024x32 : Shape := ⟨3, ![32, 1024, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S32x1024x128 : Shape := ⟨3, ![32, 1024, 128]⟩
abbrev S1x512x32x9 : Shape := ⟨4, ![1, 512, 32, 9]⟩
abbrev S1x512x32 : Shape := ⟨3, ![1, 512, 32]⟩
abbrev S1x512x128 : Shape := ⟨3, ![1, 512, 128]⟩
abbrev S16384x9 : Shape := ⟨2, ![16384, 9]⟩
abbrev S512x32 : Shape := ⟨2, ![512, 32]⟩
abbrev S512x32x1 : Shape := ⟨3, ![512, 32, 1]⟩
abbrev S16384x64 : Shape := ⟨2, ![16384, 64]⟩
abbrev S512x32x64 : Shape := ⟨3, ![512, 32, 64]⟩
abbrev S512x64 : Shape := ⟨2, ![512, 64]⟩
abbrev S512x1x64 : Shape := ⟨3, ![512, 1, 64]⟩
abbrev S512x1 : Shape := ⟨2, ![512, 1]⟩
abbrev S512x128 : Shape := ⟨2, ![512, 128]⟩

abbrev nBuf : Space → Nat
  | .hbm => 20
  | .vmem => 10
  | .smem => 0
  | _ => 0

abbrev bufTy : (tb : Table) → Fin (tcTables nBuf tb) → BufTy
  | .hbm, ⟨0, _⟩ => ⟨S32x1024x32x9, .f32⟩
  | .hbm, ⟨1, _⟩ => ⟨S32x1024x32, .i1⟩
  | .hbm, ⟨2, _⟩ => ⟨S9x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x128, .f32⟩
  | .hbm, ⟨17, _⟩ => ⟨S128, .f32⟩
  | .hbm, ⟨18, _⟩ => ⟨S32x1024x32, .i32⟩
  | .hbm, ⟨19, _⟩ => ⟨S32x1024x128, .f32⟩
  | .local _ .vmem, ⟨0, _⟩ => ⟨S1x512x32x9, .f32⟩
  | .local _ .vmem, ⟨1, _⟩ => ⟨S1x512x32x9, .f32⟩
  | .local _ .vmem, ⟨2, _⟩ => ⟨S1x512x32, .i32⟩
  | .local _ .vmem, ⟨3, _⟩ => ⟨S1x512x32, .i32⟩
  | .local _ .vmem, ⟨4, _⟩ => ⟨S9x64, .f32⟩
  | .local _ .vmem, ⟨5, _⟩ => ⟨S128x64, .f32⟩
  | .local _ .vmem, ⟨6, _⟩ => ⟨S64x64, .f32⟩
  | .local _ .vmem, ⟨7, _⟩ => ⟨S64x128, .f32⟩
  | .local _ .vmem, ⟨8, _⟩ => ⟨S1x512x128, .f32⟩
  | .local _ .vmem, ⟨9, _⟩ => ⟨S1x512x128, .f32⟩
  | _, _ => ⟨S32x1024x32x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x32x9 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S9x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x1024x32x9 : Shape := ⟨4, ![32, 1024, 32, 9]⟩
abbrev S32x1024x32 : Shape := ⟨3, ![32, 1024, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S32x1024x32x1 : Shape := ⟨4, ![32, 1024, 32, 1]⟩
abbrev S32x1024x32x64 : Shape := ⟨4, ![32, 1024, 32, 64]⟩
abbrev S1x1x1x64 : Shape := ⟨4, ![1, 1, 1, 64]⟩
abbrev S_ : Shape := ⟨0, ![]⟩
abbrev S32x1024x64 : Shape := ⟨3, ![32, 1024, 64]⟩
abbrev S32x1024x1x64 : Shape := ⟨4, ![32, 1024, 1, 64]⟩
abbrev S32x1024x32x128 : Shape := ⟨4, ![32, 1024, 32, 128]⟩
abbrev S32x1024 : Shape := ⟨2, ![32, 1024]⟩
abbrev S32x1024x1 : Shape := ⟨3, ![32, 1024, 1]⟩
abbrev S1x1x64 : Shape := ⟨3, ![1, 1, 64]⟩
abbrev S32x1024x128 : Shape := ⟨3, ![32, 1024, 128]⟩
abbrev S1x1x128 : Shape := ⟨3, ![1, 1, 128]⟩

abbrev nBuf : Space → Nat
  | .hbm => 185
  | .vmem => 0
  | .smem => 0
  | _ => 0

abbrev hbmTy0_0 (i : Nat) : BufTy := match i % 128 with
  | 0 => ⟨S32x1024x32x9, .f32⟩
  | 1 => ⟨S32x1024x32, .i1⟩
  | 2 => ⟨S9x64, .f32⟩
  | 3 => ⟨S64, .f32⟩
  | 4 => ⟨S64, .f32⟩
  | 5 => ⟨S64, .f32⟩
  | 6 => ⟨S128x64, .f32⟩
  | 7 => ⟨S64, .f32⟩
  | 8 => ⟨S64, .f32⟩
  | 9 => ⟨S64, .f32⟩
  | 10 => ⟨S64x64, .f32⟩
  | 11 => ⟨S64, .f32⟩
  | 12 => ⟨S64, .f32⟩
  | 13 => ⟨S64, .f32⟩
  | 14 => ⟨S64, .f32⟩
  | 15 => ⟨S64, .f32⟩
  | 16 => ⟨S64x128, .f32⟩
  | 17 => ⟨S128, .f32⟩
  | 18 => ⟨S32x1024x32, .f32⟩
  | 19 => ⟨S32x1024x32x1, .f32⟩
  | 20 => ⟨S32x1024x32x64, .f32⟩
  | 21 => ⟨S1x1x1x64, .f32⟩
  | 22 => ⟨S32x1024x32x64, .f32⟩
  | 23 => ⟨S32x1024x32x64, .f32⟩
  | 24 => ⟨S_, .f32⟩
  | 25 => ⟨S32x1024x32, .f32⟩
  | 26 => ⟨S32x1024x32x1, .f32⟩
  | 27 => ⟨S_, .f32⟩
  | 28 => ⟨S32x1024x32x1, .f32⟩
  | 29 => ⟨S32x1024x32x1, .f32⟩
  | 30 => ⟨S32x1024x32x64, .f32⟩
  | 31 => ⟨S32x1024x32x64, .f32⟩
  | 32 => ⟨S32x1024x32x64, .f32⟩
  | 33 => ⟨S_, .f32⟩
  | 34 => ⟨S32x1024x32, .f32⟩
  | 35 => ⟨S32x1024x32x1, .f32⟩
  | 36 => ⟨S_, .f32⟩
  | 37 => ⟨S32x1024x32x1, .f32⟩
  | 38 => ⟨S32x1024x32x1, .f32⟩
  | 39 => ⟨S32x1024x32x64, .f32⟩
  | 40 => ⟨S32x1024x32x64, .f32⟩
  | 41 => ⟨S_, .f32⟩
  | 42 => ⟨S32x1024x32x1, .f32⟩
  | 43 => ⟨S32x1024x32x1, .f32⟩
  | 44 => ⟨S32x1024x32x1, .f32⟩
  | 45 => ⟨S32x1024x32x64, .f32⟩
  | 46 => ⟨S32x1024x32x64, .f32⟩
  | 47 => ⟨S1x1x1x64, .f32⟩
  | 48 => ⟨S32x1024x32x64, .f32⟩
  | 49 => ⟨S32x1024x32x64, .f32⟩
  | 50 => ⟨S1x1x1x64, .f32⟩
  | 51 => ⟨S32x1024x32x64, .f32⟩
  | 52 => ⟨S32x1024x32x64, .f32⟩
  | 53 => ⟨S_, .f32⟩
  | 54 => ⟨S32x1024x32x64, .f32⟩
  | 55 => ⟨S32x1024x32x64, .f32⟩
  | 56 => ⟨S32x1024x32x64, .f32⟩
  | 57 => ⟨S32x1024x32x64, .f32⟩
  | 58 => ⟨S_, .f32⟩
  | 59 => ⟨S32x1024x64, .f32⟩
  | 60 => ⟨S32x1024x1x64, .f32⟩
  | 61 => ⟨S32x1024x32x64, .f32⟩
  | 62 => ⟨S32x1024x32x128, .f32⟩
  | 63 => ⟨S32x1024x32x64, .f32⟩
  | 64 => ⟨S1x1x1x64, .f32⟩
  | 65 => ⟨S32x1024x32x64, .f32⟩
  | 66 => ⟨S32x1024x32x64, .f32⟩
  | 67 => ⟨S_, .f32⟩
  | 68 => ⟨S32x1024x32, .f32⟩
  | 69 => ⟨S32x1024x32x1, .f32⟩
  | 70 => ⟨S_, .f32⟩
  | 71 => ⟨S32x1024x32x1, .f32⟩
  | 72 => ⟨S32x1024x32x1, .f32⟩
  | 73 => ⟨S32x1024x32x64, .f32⟩
  | 74 => ⟨S32x1024x32x64, .f32⟩
  | 75 => ⟨S32x1024x32x64, .f32⟩
  | 76 => ⟨S_, .f32⟩
  | 77 => ⟨S32x1024x32, .f32⟩
  | 78 => ⟨S32x1024x32x1, .f32⟩
  | 79 => ⟨S_, .f32⟩
  | 80 => ⟨S32x1024x32x1, .f32⟩
  | 81 => ⟨S32x1024x32x1, .f32⟩
  | 82 => ⟨S32x1024x32x64, .f32⟩
  | 83 => ⟨S32x1024x32x64, .f32⟩
  | 84 => ⟨S_, .f32⟩
  | 85 => ⟨S32x1024x32x1, .f32⟩
  | 86 => ⟨S32x1024x32x1, .f32⟩
  | 87 => ⟨S32x1024x32x1, .f32⟩
  | 88 => ⟨S32x1024x32x64, .f32⟩
  | 89 => ⟨S32x1024x32x64, .f32⟩
  | 90 => ⟨S1x1x1x64, .f32⟩
  | 91 => ⟨S32x1024x32x64, .f32⟩
  | 92 => ⟨S32x1024x32x64, .f32⟩
  | 93 => ⟨S1x1x1x64, .f32⟩
  | 94 => ⟨S32x1024x32x64, .f32⟩
  | 95 => ⟨S32x1024x32x64, .f32⟩
  | 96 => ⟨S_, .f32⟩
  | 97 => ⟨S32x1024x32x64, .f32⟩
  | 98 => ⟨S32x1024x32x64, .f32⟩
  | 99 => ⟨S32x1024x32x64, .f32⟩
  | 100 => ⟨S1x1x1x64, .f32⟩
  | 101 => ⟨S32x1024x32x64, .f32⟩
  | 102 => ⟨S32x1024x32x64, .f32⟩
  | 103 => ⟨S_, .f32⟩
  | 104 => ⟨S32x1024x32, .f32⟩
  | 105 => ⟨S32x1024x32x1, .f32⟩
  | 106 => ⟨S_, .f32⟩
  | 107 => ⟨S32x1024x32x1, .f32⟩
  | 108 => ⟨S32x1024x32x1, .f32⟩
  | 109 => ⟨S32x1024x32x64, .f32⟩
  | 110 => ⟨S32x1024x32x64, .f32⟩
  | 111 => ⟨S32x1024x32x64, .f32⟩
  | 112 => ⟨S_, .f32⟩
  | 113 => ⟨S32x1024x32, .f32⟩
  | 114 => ⟨S32x1024x32x1, .f32⟩
  | 115 => ⟨S_, .f32⟩
  | 116 => ⟨S32x1024x32x1, .f32⟩
  | 117 => ⟨S32x1024x32x1, .f32⟩
  | 118 => ⟨S32x1024x32x64, .f32⟩
  | 119 => ⟨S32x1024x32x64, .f32⟩
  | 120 => ⟨S_, .f32⟩
  | 121 => ⟨S32x1024x32x1, .f32⟩
  | 122 => ⟨S32x1024x32x1, .f32⟩
  | 123 => ⟨S32x1024x32x1, .f32⟩
  | 124 => ⟨S32x1024x32x64, .f32⟩
  | 125 => ⟨S32x1024x32x64, .f32⟩
  | 126 => ⟨S1x1x1x64, .f32⟩
  | 127 => ⟨S32x1024x32x64, .f32⟩
  | _ => ⟨S32x1024x32x9, .f32⟩

abbrev hbmTy0_1 (i : Nat) : BufTy := match i % 128 with
  | 0 => ⟨S32x1024x32x64, .f32⟩
  | 1 => ⟨S1x1x1x64, .f32⟩
  | 2 => ⟨S32x1024x32x64, .f32⟩
  | 3 => ⟨S32x1024x32x64, .f32⟩
  | 4 => ⟨S_, .f32⟩
  | 5 => ⟨S32x1024x32x64, .f32⟩
  | 6 => ⟨S32x1024x32x64, .f32⟩
  | 7 => ⟨S32x1024x32x64, .f32⟩
  | 8 => ⟨S32x1024x32x64, .f32⟩
  | 9 => ⟨S_, .f32⟩
  | 10 => ⟨S32x1024x64, .f32⟩
  | 11 => ⟨S32x1024x32, .i32⟩
  | 12 => ⟨S_, .i32⟩
  | 13 => ⟨S32x1024, .i32⟩
  | 14 => ⟨S_, .i32⟩
  | 15 => ⟨S32x1024, .i32⟩
  | 16 => ⟨S32x1024, .i1⟩
  | 17 => ⟨S32x1024, .f32⟩
  | 18 => ⟨S32x1024x1, .f32⟩
  | 19 => ⟨S_, .f32⟩
  | 20 => ⟨S32x1024, .f32⟩
  | 21 => ⟨S32x1024x1, .f32⟩
  | 22 => ⟨S_, .f32⟩
  | 23 => ⟨S32x1024x1, .f32⟩
  | 24 => ⟨S32x1024x1, .f32⟩
  | 25 => ⟨S32x1024x64, .f32⟩
  | 26 => ⟨S32x1024x64, .f32⟩
  | 27 => ⟨S32x1024x64, .f32⟩
  | 28 => ⟨S_, .f32⟩
  | 29 => ⟨S32x1024, .f32⟩
  | 30 => ⟨S32x1024x1, .f32⟩
  | 31 => ⟨S_, .f32⟩
  | 32 => ⟨S32x1024x1, .f32⟩
  | 33 => ⟨S32x1024x1, .f32⟩
  | 34 => ⟨S32x1024x64, .f32⟩
  | 35 => ⟨S32x1024x64, .f32⟩
  | 36 => ⟨S_, .f32⟩
  | 37 => ⟨S32x1024x1, .f32⟩
  | 38 => ⟨S32x1024x1, .f32⟩
  | 39 => ⟨S32x1024x1, .f32⟩
  | 40 => ⟨S32x1024x64, .f32⟩
  | 41 => ⟨S32x1024x64, .f32⟩
  | 42 => ⟨S1x1x64, .f32⟩
  | 43 => ⟨S32x1024x64, .f32⟩
  | 44 => ⟨S32x1024x64, .f32⟩
  | 45 => ⟨S1x1x64, .f32⟩
  | 46 => ⟨S32x1024x64, .f32⟩
  | 47 => ⟨S32x1024x64, .f32⟩
  | 48 => ⟨S_, .f32⟩
  | 49 => ⟨S32x1024x64, .f32⟩
  | 50 => ⟨S32x1024x64, .f32⟩
  | 51 => ⟨S32x1024x128, .f32⟩
  | 52 => ⟨S1x1x128, .f32⟩
  | 53 => ⟨S32x1024x128, .f32⟩
  | 54 => ⟨S32x1024x128, .f32⟩
  | 55 => ⟨S32x1024x128, .f32⟩
  | 56 => ⟨S32x1024x128, .f32⟩
  | _ => ⟨S32x1024x32x9, .f32⟩

abbrev hbmTy (i : Nat) : BufTy := match i / 128 with
  | 0 => hbmTy0_0 i
  | 1 => hbmTy0_1 i
  | _ => ⟨S32x1024x32x9, .f32⟩

abbrev bufTy : (tb : Table) → Fin (tcTables nBuf tb) → BufTy
  | .hbm, ⟨i, _⟩ => hbmTy i
  | _, _ => ⟨S32x1024x32x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_cst : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call0_cst : Ref sig .tc := ⟨.hbm, 53, rfl⟩
abbrev main_call0_v0 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_7 : Ref sig .tc := ⟨.hbm, 76, rfl⟩
abbrev main_v48 : Ref sig .tc := ⟨.hbm, 77, rfl⟩
abbrev main_v49 : Ref sig .tc := ⟨.hbm, 78, rfl⟩
abbrev main_cst_8 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_9 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_call1_cst : Ref sig .tc := ⟨.hbm, 96, rfl⟩
abbrev main_call1_v0 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_10 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_cst_12 : Ref sig .tc := ⟨.hbm, 112, rfl⟩
abbrev main_v77 : Ref sig .tc := ⟨.hbm, 113, rfl⟩
abbrev main_v78 : Ref sig .tc := ⟨.hbm, 114, rfl⟩
abbrev main_cst_13 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_14 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_call2_cst : Ref sig .tc := ⟨.hbm, 132, rfl⟩
abbrev main_call2_v0 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_15 : Ref sig .tc := ⟨.hbm, 137, rfl⟩
abbrev main_v97 : Ref sig .tc := ⟨.hbm, 138, rfl⟩
abbrev main_v98 : Ref sig .tc := ⟨.hbm, 139, rfl⟩
abbrev main_c : Ref sig .tc := ⟨.hbm, 140, rfl⟩
abbrev main_v99 : Ref sig .tc := ⟨.hbm, 141, rfl⟩
abbrev main_c_16 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_17 : Ref sig .tc := ⟨.hbm, 147, rfl⟩
abbrev main_v104 : Ref sig .tc := ⟨.hbm, 148, rfl⟩
abbrev main_v105 : Ref sig .tc := ⟨.hbm, 149, rfl⟩
abbrev main_cst_18 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_19 : Ref sig .tc := ⟨.hbm, 156, rfl⟩
abbrev main_v111 : Ref sig .tc := ⟨.hbm, 157, rfl⟩
abbrev main_v112 : Ref sig .tc := ⟨.hbm, 158, rfl⟩
abbrev main_cst_20 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_21 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_call3_cst : Ref sig .tc := ⟨.hbm, 176, rfl⟩
abbrev main_call3_v0 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩

abbrev nD : Nat := 1
abbrev τ : Topo := Topo.v7x

variable {F : FTy → Type} [FloatOps F]
-- ==== Proof.Spec.lean ====
module

public import Idealize.ShloMosaic.PureOps.Ideal.Laws
public import Idealize.ShloMosaic.Lib.IdealHost

@[expose] public section

noncomputable section

/-! # The steps of a layer over the real numbers

Centring a row, normalising it, and the largest of 32 rows; then the forms in which the two programs do these steps on
extended reals that happen to be real. -/

namespace PolylineEncoder

open Idealize.ShloMosaic
open scoped BigOperators

/-- The small number that both programs add to a variance: the value of the word they print for `1e-5`. -/
def eps : ℝ := (2 ^ 23 + 2606508 : ℕ) * (2 : ℝ) ^ (-40 : ℤ)

theorem eps_pos : 0 < eps := by unfold eps; positivity

/-- A row less its mean. -/
def cen (h : Fin 64 → ℝ) (o : Fin 64) : ℝ := h o - (∑ k, h k) / 64

/-- A row divided by the root of its mean square, then cut off below at zero. -/
def nrm (d : Fin 64 → ℝ) (o : Fin 64) : ℝ := max (d o * (Real.sqrt ((∑ k, d k * d k) / 64 + eps))⁻¹) 0

/-- The largest of 32 numbers. -/
def big (f : Fin 32 → ℝ) : ℝ := Finset.univ.sup' Finset.univ_nonempty f

/-- The largest of 32 rows, column by column. -/
def bigs (f : Fin 32 → Fin 64 → ℝ) (o : Fin 64) : ℝ := big fun n => f n o

/-- The polyline's code: the largest of the third layer over all points, normalised. -/
def code (h : Fin 32 → Fin 64 → ℝ) (o : Fin 64) : ℝ := nrm (cen (bigs h)) o

/-! ## Centred weights -/

/-- A product with weights whose rows have been centred is the centred product. -/
theorem sum_cen {ι : Type*} [Fintype ι] (x : ι → ℝ) (w : ι → Fin 64 → ℝ) (o : Fin 64) :
    ∑ c, x c * cen (w c) o = cen (fun k => ∑ c, x c * w c k) o := by
  unfold cen
  simp only [mul_sub, Finset.sum_sub_distrib]
  congr 1
  rw [Finset.sum_comm, Finset.sum_div]
  refine Finset.sum_congr rfl fun c _ => ?_
  rw [← Finset.mul_sum, mul_div_assoc]

/-! ## The same steps on extended reals that happen to be real -/

/-- A finite sum of reals, read as an extended real. -/
theorem coe_sum {ι : Type*} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- The larger of two reals, read as an extended real. -/
theorem coe_max (a b : ℝ) : max (a : EReal) (b : EReal) = ((max a b : ℝ) : EReal) :=
  (EReal.coe_strictMono.monotone.map_max).symm

/-- The word for minus infinity. -/
theorem word_bot : Ideal.ofBits .f32 0xFF800000#32 = ⊥ := by
  simp [Ideal.ofBits, Ideal.ieee]

/-- The word for infinity. -/
theorem word_top : Ideal.ofBits .f32 0x7F800000#32 = ⊤ := by
  simp [Ideal.ofBits, Ideal.ieee]

/-- The word for one sixty-fourth. -/
theorem word_inv64 : Ideal.ofBits .f32 0x3C800000#32 = ((1 / 64 : ℝ) : EReal) := by
  simp [Ideal.ofBits, Ideal.ieee]
  rw [← EReal.coe_mul]
  congr 1
  norm_num

/-- The word for sixty-four. -/
theorem word_64 : Ideal.ofBits .f32 0x42800000#32 = ((64 : ℝ) : EReal) := by
  simp [Ideal.ofBits, Ideal.ieee]
  rw [← EReal.coe_mul]
  congr 1
  norm_num

/-- The word for the small number. -/
theorem word_eps : Ideal.ofBits .f32 0x3727C5AC#32 = (eps : EReal) := by
  simp [Ideal.ofBits, Ideal.ieee, eps]

/-- Folding the maximum over real entries from minus infinity gives the largest. -/
theorem fold_max (f : Fin 32 → ℝ) :
    Finset.univ.fold max (⊥ : EReal) (fun n => (f n : EReal)) = (big f : EReal) := by
  have e : ∀ (s : Finset (Fin 32)) (hs : s.Nonempty),
      s.fold max (⊥ : EReal) (fun n => (f n : EReal)) = ((s.sup' hs f : ℝ) : EReal) := by
    intro s hs
    induction hs using Finset.Nonempty.cons_induction with
    | singleton a => simp
    | cons a s ha hs ih =>
      rw [Finset.fold_cons, ih, Finset.sup'_cons hs]
      exact coe_max _ _
  exact e _ _

/-- The same for the entries of one column of rows. -/
theorem fold_rows (f : Fin 32 → Fin 64 → ℝ) (o : Fin 64) :
    Finset.univ.fold max (⊥ : EReal) (fun n => (f n o : EReal)) = (bigs f o : EReal) := fold_max _

/-- Centring a row by a product with the constant matrix of sixty-fourths. -/
theorem cen_coe (h : Fin 64 → ℝ) (o : Fin 64) :
    (h o : EReal) - ∑ k, (h k : EReal) * ((1 / 64 : ℝ) : EReal) = (cen h o : EReal) := by
  simp only [← EReal.coe_mul, coe_sum, ← EReal.coe_sub]
  rw [← Finset.sum_mul, mul_one_div, cen]

/-- The mean square plus the small number, as a real. -/
theorem var_pos (d : Fin 64 → ℝ) : 0 < (∑ k, d k * d k) / 64 + eps := by
  have : 0 ≤ ∑ k, d k * d k := Finset.sum_nonneg fun k _ => mul_self_nonneg _
  have := eps_pos
  positivity

/-- The kernel's normalisation: the mean square by a product with the constant matrix, then the reciprocal root. -/
theorem nrm_coe (d : Fin 64 → ℝ) (o : Fin 64) :
    max ((d o : EReal) * Ideal.rsqrt ((∑ k, (d k : EReal) * (d k : EReal) * ((1 / 64 : ℝ) : EReal)) + (eps : EReal))) 0
      = (nrm d o : EReal) := by
  simp only [← EReal.coe_mul, coe_sum, ← EReal.coe_add]
  rw [← Finset.sum_mul, mul_one_div, Ideal.rsqrt_coe, if_neg (var_pos d).le.not_gt, if_neg (var_pos d).ne', ← EReal.coe_mul,
    ← EReal.coe_zero, coe_max, nrm]

/-- The reference's mean: the sum divided by sixty-four. -/
theorem mean_coe (h : Fin 64 → ℝ) (o : Fin 64) :
    (h o : EReal) - Ideal.div (∑ k, (h k : EReal)) ((64 : ℝ) : EReal) = (cen h o : EReal) := by
  rw [Ideal.div_coe (by norm_num : (64 : ℝ) ≠ 0), coe_sum, ← EReal.coe_mul, ← EReal.coe_sub, mul_one_div, cen]

/-- The reference's normalisation of a centred row: division by the root of the mean square. -/
theorem div_sqrt_coe (d : Fin 64 → ℝ) (o : Fin 64) :
    max (Ideal.div (d o : EReal) (Ideal.sqrt (Ideal.div (∑ k, (d k : EReal) * (d k : EReal)) ((64 : ℝ) : EReal) + (eps : EReal)))) 0
      = (nrm d o : EReal) := by
  rw [Ideal.div_coe (by norm_num : (64 : ℝ) ≠ 0)]
  simp only [← EReal.coe_mul, coe_sum, ← EReal.coe_add]
  rw [mul_one_div, Ideal.sqrt_coe, if_neg (var_pos d).le.not_gt, Ideal.div_coe (Real.sqrt_pos.2 (var_pos d)).ne', ← EReal.coe_mul,
    ← EReal.coe_zero, coe_max, nrm, one_div]

end PolylineEncoder
-- ==== Proof.Layer.lean ====
module

public import proofs.«01_k».proof.Proof.Spec

@[expose] public section

noncomputable section

/-! # One layer of the encoder

A layer takes a row of real numbers through a weight matrix of extended reals, centres the result, normalises it and cuts it
off below at zero. Where an infinite weight meets a number other than zero, every entry of the centred row is infinite, the
root of the mean square is infinite too, and the layer's result is zero. -/

namespace PolylineEncoder

open Idealize.ShloMosaic
open scoped BigOperators

/-! ## Infinite numbers -/

/-- An extended real that is not a real number. -/
def Inf (a : EReal) : Prop := a = ⊤ ∨ a = ⊥

theorem real_or_inf (a : EReal) : a = (a.toReal : EReal) ∨ Inf a := by
  induction a with
  | bot => exact .inr (.inr rfl)
  | coe r => exact .inl rfl
  | top => exact .inr (.inl rfl)

theorem Inf.add {a : EReal} (h : Inf a) (b : EReal) : Inf (a + b) := by
  rcases h with rfl | rfl
  · induction b with
    | bot => exact .inr rfl
    | coe r => exact .inl rfl
    | top => exact .inl rfl
  · exact .inr (EReal.bot_add b)

theorem Inf.neg {a : EReal} (h : Inf a) : Inf (-a) := by
  rcases h with rfl | rfl
  · exact .inr rfl
  · exact .inl rfl

theorem Inf.sub {b : EReal} (h : Inf b) (a : EReal) : Inf (a - b) := by
  rw [sub_eq_add_neg, add_comm]
  exact h.neg.add a

theorem Inf.mul {a : EReal} (h : Inf a) {r : ℝ} (hr : r ≠ 0) : Inf ((r : EReal) * a) := by
  rcases lt_or_gt_of_ne hr with hr | hr <;> rcases h with rfl | rfl
  · exact .inr (EReal.coe_mul_top_of_neg hr)
  · exact .inl (EReal.coe_mul_bot_of_neg hr)
  · exact .inl (EReal.coe_mul_top_of_pos hr)
  · exact .inr (EReal.coe_mul_bot_of_pos hr)

theorem Inf.sq {a : EReal} (h : Inf a) : a * a = ⊤ := by
  rcases h with rfl | rfl <;> simp

/-- A sum with an infinite term is infinite. -/
theorem Inf.sum {ι : Type*} [Fintype ι] {f : ι → EReal} {i : ι} (h : Inf (f i)) : Inf (∑ k, f k) := by
  classical
  rw [← Finset.add_sum_erase Finset.univ f (Finset.mem_univ i)]
  exact h.add _

theorem sum_top : ∑ _k : Fin 64, (⊤ : EReal) = ⊤ := by
  have h : 0 ≤ ∑ _k : Fin 63, (⊤ : EReal) := Finset.sum_nonneg fun _ _ => le_top
  rw [Fin.sum_univ_succ]
  exact EReal.top_add_of_ne_bot (lt_of_lt_of_le EReal.bot_lt_zero h).ne'

/-! ## A layer -/

variable {ι : Type*} [Fintype ι]

/-- Every weight that meets a number other than zero is real. -/
def Clear (x : ι → ℝ) (W : ι → Fin 64 → EReal) : Prop := ∀ i, x i ≠ 0 → ∀ k, W i k = ((W i k).toReal : EReal)

open Classical in
/-- The layer's result. -/
def layer (x : ι → ℝ) (W : ι → Fin 64 → EReal) (o : Fin 64) : ℝ :=
  if Clear x W then nrm (cen fun k => ∑ i, x i * (W i k).toReal) o else 0

/-- A row with an infinite weight that counts, if not every weight that counts is real. -/
theorem exists_inf {x : ι → ℝ} {W : ι → Fin 64 → EReal} (h : ¬Clear x W) : ∃ i k, x i ≠ 0 ∧ Inf (W i k) := by
  by_contra hn
  exact h fun i hi k => (real_or_inf (W i k)).resolve_right fun hk => hn ⟨i, k, hi, hk⟩

theorem sixtyfourth_ne : (1 / 64 : ℝ) ≠ 0 := by norm_num

/-! ## The kernel's form -/

/-- The kernel's centred weights: each less the mean of its row. -/
def cw (r : Fin 64 → EReal) (o : Fin 64) : EReal := r o - ∑ k, r k * ((1 / 64 : ℝ) : EReal)

theorem cw_eq (r : Fin 64 → EReal) (o : Fin 64) : r o - ∑ k, r k * ((1 / 64 : ℝ) : EReal) = cw r o := rfl

theorem prod_cw_real {x : ι → ℝ} {W : ι → Fin 64 → EReal} (h : Clear x W) (o : Fin 64) :
    ∑ i, (x i : EReal) * cw (W i) o = (cen (fun k => ∑ i, x i * (W i k).toReal) o : EReal) := by
  rw [← sum_cen, ← coe_sum]
  refine Finset.sum_congr rfl fun i _ => ?_
  by_cases hi : x i = 0
  · rw [hi, EReal.coe_zero, zero_mul, zero_mul, EReal.coe_zero]
  · rw [EReal.coe_mul, ← cen_coe, cw]
    simp only [← h i hi]

theorem prod_cw_inf {x : ι → ℝ} {W : ι → Fin 64 → EReal} (h : ¬Clear x W) (o : Fin 64) : Inf (∑ i, (x i : EReal) * cw (W i) o) := by
  obtain ⟨i, k, hi, hk⟩ := exists_inf h
  refine Inf.sum (i := i) (Inf.mul (Inf.sub (Inf.sum (i := k) ?_) _) hi)
  rw [mul_comm]
  exact hk.mul sixtyfourth_ne

/-- The kernel's normalisation of an infinite row. -/
theorem nrm_inf {d : Fin 64 → EReal} (h : ∀ k, Inf (d k)) (o : Fin 64) :
    max (d o * Ideal.rsqrt ((∑ k, d k * d k * ((1 / 64 : ℝ) : EReal)) + (eps : EReal))) 0 = 0 := by
  simp only [(h _).sq, EReal.top_mul_coe_of_pos (by norm_num : (0 : ℝ) < 1 / 64)]
  rw [sum_top, EReal.top_add_coe, Ideal.rsqrt_top, mul_zero, max_self]

/-- The kernel's layer. -/
theorem kernel_layer (x : ι → ℝ) (W : ι → Fin 64 → EReal) (o : Fin 64) :
    max ((∑ i, (x i : EReal) * cw (W i) o)
        * Ideal.rsqrt ((∑ k, (∑ i, (x i : EReal) * cw (W i) k) * (∑ i, (x i : EReal) * cw (W i) k) * ((1 / 64 : ℝ) : EReal)) + (eps : EReal))) 0
      = (layer x W o : EReal) := by
  rw [layer]
  split
  case isTrue h => simp only [prod_cw_real h, nrm_coe]
  case isFalse h => exact nrm_inf (prod_cw_inf h) o

/-- The kernel's layer over two rows, each with its half of the weights. -/
theorem kernel_layer2 {κ : Type*} [Fintype κ] (x : ι → ℝ) (y : κ → ℝ) (W : ι → Fin 64 → EReal) (V : κ → Fin 64 → EReal) (o : Fin 64) :
    max (((∑ i, (x i : EReal) * cw (W i) o) + ∑ i, (y i : EReal) * cw (V i) o)
        * Ideal.rsqrt ((∑ k, ((∑ i, (x i : EReal) * cw (W i) k) + ∑ i, (y i : EReal) * cw (V i) k)
            * ((∑ i, (x i : EReal) * cw (W i) k) + ∑ i, (y i : EReal) * cw (V i) k) * ((1 / 64 : ℝ) : EReal)) + (eps : EReal))) 0
      = (layer (Sum.elim x y) (Sum.elim W V) o : EReal) := by
  rw [← kernel_layer]
  simp only [Fintype.sum_sum_type, Sum.elim_inl, Sum.elim_inr]

/-! ## The reference's form -/

/-- The reference's product of a row with the weights. -/
def prod (x : ι → ℝ) (W : ι → Fin 64 → EReal) (o : Fin 64) : EReal := ∑ i, (x i : EReal) * W i o

/-- The reference's row less its mean. -/
def dev (r : Fin 64 → EReal) (o : Fin 64) : EReal := r o - Ideal.div (∑ k, r k) ((64 : ℝ) : EReal)

theorem dev_eq (r : Fin 64 → EReal) (o : Fin 64) : r o - Ideal.div (∑ k, r k) ((64 : ℝ) : EReal) = dev r o := rfl

/-- Two rows' products are one product. -/
theorem prod_add {κ : Type*} [Fintype κ] (x : ι → ℝ) (y : κ → ℝ) (W : ι → Fin 64 → EReal) (V : κ → Fin 64 → EReal) (o : Fin 64) :
    prod x W o + prod y V o = prod (Sum.elim x y) (Sum.elim W V) o := by
  unfold prod
  simp only [Fintype.sum_sum_type, Sum.elim_inl, Sum.elim_inr]

theorem prod_real {x : ι → ℝ} {W : ι → Fin 64 → EReal} (h : Clear x W) (o : Fin 64) :
    prod x W o = ((∑ i, x i * (W i o).toReal : ℝ) : EReal) := by
  rw [← coe_sum]
  refine Finset.sum_congr rfl fun i _ => ?_
  by_cases hi : x i = 0
  · rw [hi, EReal.coe_zero, zero_mul, zero_mul, EReal.coe_zero]
  · rw [EReal.coe_mul, ← h i hi]

theorem dev_real {x : ι → ℝ} {W : ι → Fin 64 → EReal} (h : Clear x W) (o : Fin 64) :
    dev (prod x W) o = (cen (fun k => ∑ i, x i * (W i k).toReal) o : EReal) := by
  rw [dev]
  simp only [prod_real h]
  exact mean_coe (fun k => ∑ i, x i * (W i k).toReal) o

theorem dev_inf {x : ι → ℝ} {W : ι → Fin 64 → EReal} (h : ¬Clear x W) (o : Fin 64) : Inf (dev (prod x W) o) := by
  obtain ⟨i, k, hi, hk⟩ := exists_inf h
  refine Inf.sub ?_ _
  rw [Ideal.div_coe (by norm_num : (64 : ℝ) ≠ 0), mul_comm]
  exact Inf.mul (Inf.sum (i := k) (Inf.sum (i := i) (hk.mul hi))) sixtyfourth_ne

/-- The reference's normalisation of an infinite row. -/
theorem div_sqrt_inf {d : Fin 64 → EReal} (h : ∀ k, Inf (d k)) (o : Fin 64) :
    max (Ideal.div (d o) (Ideal.sqrt (Ideal.div (∑ k, d k * d k) ((64 : ℝ) : EReal) + (eps : EReal)))) 0 = 0 := by
  simp only [(h _).sq]
  rw [sum_top, Ideal.div_coe (by norm_num : (64 : ℝ) ≠ 0), EReal.top_mul_coe_of_pos (by norm_num : (0 : ℝ) < 1 / 64), EReal.top_add_coe,
    Ideal.sqrt_top, Ideal.div, if_neg EReal.top_ne_zero, EReal.inv_top, mul_zero, max_self]

/-- The reference's layer. -/
theorem reference_layer (x : ι → ℝ) (W : ι → Fin 64 → EReal) (o : Fin 64) :
    max (Ideal.div (dev (prod x W) o) (Ideal.sqrt (Ideal.div (∑ k, dev (prod x W) k * dev (prod x W) k) ((64 : ℝ) : EReal) + (eps : EReal)))) 0
      = (layer x W o : EReal) := by
  rw [layer]
  split
  case isTrue h => simp only [dev_real h, div_sqrt_coe]
  case isFalse h => exact div_sqrt_inf (dev_inf h) o

/-! ## The largest of a layer's rows under a mask -/

theorem fold_layer (x : Fin 32 → ι → ℝ) (W : ι → Fin 64 → EReal) (μ : Fin 32 → ℝ) (o : Fin 64) :
    Finset.univ.fold max (⊥ : EReal) (fun n => (layer (x n) W o : EReal) * (μ n : EReal))
      = (bigs (fun n k => layer (x n) W k * μ n) o : EReal) := by
  simp only [← EReal.coe_mul]
  exact fold_max _

/-! ## The encoder of one polyline -/

/-- The first layer at point `n`, times the mask. -/
def lay1 (x : Fin 32 → Fin 9 → ℝ) (μ : Fin 32 → ℝ) (w : Fin 9 → Fin 64 → EReal) (n : Fin 32) (o : Fin 64) : ℝ :=
  layer (x n) w o * μ n

/-- The second layer at point `n`: its own features and the largest features over all points, each with its half of the
    weights. -/
def lay2 (f : Fin 32 → Fin 64 → ℝ) (wa wb : Fin 64 → Fin 64 → EReal) (n : Fin 32) (o : Fin 64) : ℝ :=
  layer (Sum.elim (f n) (bigs f)) (Sum.elim wa wb) o

/-- The third layer at point `n`, times the mask. -/
def lay3 (g : Fin 32 → Fin 64 → ℝ) (μ : Fin 32 → ℝ) (w : Fin 64 → Fin 64 → EReal) (n : Fin 32) (o : Fin 64) : ℝ :=
  layer (g n) w o * μ n

/-- The four layers one after another. -/
def enc (x : Fin 32 → Fin 9 → ℝ) (μ : Fin 32 → ℝ) (w1 : Fin 9 → Fin 64 → EReal) (wa wb w3 : Fin 64 → Fin 64 → EReal) : Fin 64 → ℝ :=
  code (lay3 (lay2 (lay1 x μ w1) wa wb) μ w3)

end PolylineEncoder
-- ==== Proof.Target.lean ====
module

public import proofs.«01_k».proof.Proof.Layer
public import Idealize.ShloMosaic.Lib.Pointwise

@[expose] public section

noncomputable section

/-! # The result array as a function of the argument arrays -/

namespace PolylineEncoder

open Idealize.ShloMosaic
open scoped BigOperators

/-- The points of polyline `(b, p)` as real numbers. -/
def points (X : FVec Ideal ⟨4, ![32, 1024, 32, 9]⟩ .f32) (b : Fin 32) (p : Fin 1024) (n : Fin 32) (c : Fin 9) : ℝ :=
  (X (ix4 b p n c)).toReal

/-- The mask of polyline `(b, p)`: one for a point that counts, zero for one that does not. -/
def mask (M : IVec ⟨3, ![32, 1024, 32]⟩ 1) (b : Fin 32) (p : Fin 1024) (n : Fin 32) : ℝ := ((M (ix3 b p n)).toNat : ℝ)

/-- A weight matrix, entry by entry. -/
def mat {K : ℕ} (W : FVec Ideal ⟨2, ![K, 64]⟩ .f32) (i : Fin K) (k : Fin 64) : EReal := W (ix2 i k)

/-- The first 64 rows of the second layer's weights, which meet a point's own features. -/
def upper (W : FVec Ideal ⟨2, ![128, 64]⟩ .f32) (i : Fin 64) (k : Fin 64) : EReal := mat W ⟨i, by omega⟩ k

/-- The last 64 rows of the second layer's weights, which meet the largest features of the polyline. -/
def lower (W : FVec Ideal ⟨2, ![128, 64]⟩ .f32) (i : Fin 64) (k : Fin 64) : EReal := mat W ⟨64 + i, by omega⟩ k

/-- The result: the code of polyline `(b, p)` times the last weights, and zero where the mask is all zero. -/
def target (X : FVec Ideal ⟨4, ![32, 1024, 32, 9]⟩ .f32) (M : IVec ⟨3, ![32, 1024, 32]⟩ 1) (W1 : FVec Ideal ⟨2, ![9, 64]⟩ .f32)
    (W2 : FVec Ideal ⟨2, ![128, 64]⟩ .f32) (W3 : FVec Ideal ⟨2, ![64, 64]⟩ .f32) (W4 : FVec Ideal ⟨2, ![64, 128]⟩ .f32)
    (b : Fin 32) (p : Fin 1024) (o : Fin 128) : EReal :=
  (∑ k : Fin 64, (enc (points X b p) (mask M b p) (mat W1) (upper W2) (lower W2) (mat W3) k : EReal) * W4 (ix2 k o))
    * (big (mask M b p) : EReal)

/-- An array all of whose entries are real numbers. -/
def Real {s : Shape} (X : FVec Ideal s .f32) : Prop := ∀ i, X i = ((X i).toReal : EReal)

end PolylineEncoder
-- ==== Proof.Precondition.lean ====
module

public import proofs.«01_k».proof.Proof.Gen.Pre_initial_affine
public import proofs.«01_k».proof.Proof.Target

@[expose] public section

noncomputable section

/-! # What the precondition says

An array whose magnitudes all lie below infinity holds real numbers; an array that compares equal to a constant holds it. -/

namespace PolylineEncoder.Pre

open Idealize.ShloMosaic

theorem ofBool_one {b : Bool} (h : BitVec.ofBool b = 1#1) : b = true := by
  cases b
  · exact absurd h (by decide)
  · rfl

/-- A magnitude below infinity is a real number's. -/
theorem real_of_lt (x : EReal) (h : max x (-x) < ⊤) : x = (x.toReal : EReal) := by
  refine (EReal.coe_toReal ?_ ?_).symm
  · rintro rfl; simp at h
  · rintro rfl; simp at h

theorem real_of_finite {s s0 : Shape} {d : Fin s0.rank → Fin s.rank} (hb : s0.BroadcastsInDim s d) (x : FVec Ideal s .f32)
    (h : cmpf .olt (Host.absf x) (broadcastInDim s d hb (constant s0 .f32 0x7F800000#32)) = fun _ => 1#1) : Real x := by
  intro i
  have hi : BitVec.ofBool (decide (max (x i) (-(x i)) < Ideal.ofBits .f32 0x7F800000#32)) = 1#1 := congrFun h i
  rw [word_top] at hi
  exact real_of_lt _ (of_decide_eq_true (ofBool_one hi))

theorem eq_of_oeq {s s0 : Shape} {d : Fin s0.rank → Fin s.rank} (hb : s0.BroadcastsInDim s d) (x : FVec Ideal s .f32) (w : BitVec 32)
    (h : cmpf .oeq x (broadcastInDim s d hb (constant s0 .f32 w)) = fun _ => 1#1) (i : s.Idx) : x i = Ideal.ofBits .f32 w := by
  have hi : BitVec.ofBool (decide (x i = Ideal.ofBits .f32 w)) = 1#1 := congrFun h i
  exact of_decide_eq_true (ofBool_one hi)

theorem word_zero : Ideal.ofBits .f32 0x00000000#32 = 0 := by
  simp [Ideal.ofBits, Ideal.ieee]

theorem word_one : Ideal.ofBits .f32 0x3F800000#32 = ((1 : ℝ) : EReal) := by
  simp [Ideal.ofBits, Ideal.ieee]
  rw [← EReal.coe_mul, ← EReal.coe_one]
  congr 1
  norm_num

end PolylineEncoder.Pre
-- ==== Proof.KernelBlock.lean ====
module

public import proofs.«01_k».proof.Proof.Gen.KernelIdeal.Value
public import proofs.«01_k».proof.Proof.Target

@[expose] public section

set_option maxRecDepth 16384

noncomputable section

/-! # What one block of the kernel computes

A block holds 512 polylines. Row `p` of the block's result depends only on row `p` of the points and of the mask, and
is the encoder of the specification, multiplied by the last weights and by the largest mask entry. -/

namespace PolylineEncoder.Block

open Cert.KernelIdeal Cert.KernelIdeal.Gen Idealize.ShloMosaic
open scoped BigOperators

/-- The kernel subtracts from each weight the mean of its row. -/
theorem pay3_apply (v : Vec Ideal S64x64 .f32) (w : Fin 64 → Fin 64 → EReal) (hv : ∀ i k, v (ix2 i k) = w i k) (i k : Fin 64) :
    k0_pay3 (F := Ideal) v (ix2 i k) = cw (w i) k := by
  pointwise [k0_pay3, k0_pay2]
  simp only [hv, word_inv64, cw_eq]

/-- The same for the second half of the second layer's weights. -/
theorem pay4_apply (v : Vec Ideal S64x64 .f32) (w : Fin 64 → Fin 64 → EReal) (hv : ∀ i k, v (ix2 i k) = w i k) (i k : Fin 64) :
    k0_pay4 (F := Ideal) v (ix2 i k) = cw (w i) k := pay3_apply v w hv i k

/-- The same for the third layer's weights. -/
theorem pay5_apply (v : Vec Ideal S64x64 .f32) (w : Fin 64 → Fin 64 → EReal) (hv : ∀ i k, v (ix2 i k) = w i k) (i k : Fin 64) :
    k0_pay5 (F := Ideal) v (ix2 i k) = cw (w i) k := pay3_apply v w hv i k

/-- The mask entry of a point as a number, from the word that holds its bit. -/
theorem pay6_apply (v15 : Vec Ideal S1x512x32 .i32) (p : Fin 512) (n : Fin 32) (b : BitVec 1)
    (hb : v15 (ix3 0 p n) = b.setWidth 32) : k0_pay6 (F := Ideal) v15 (ix3 p n 0) = ((b.toNat : ℝ) : EReal) := by
  pointwise [k0_pay6]
  rw [hb]
  rcases BitVec.eq_zero_or_eq_one b with rfl | rfl
  · show (((0 : ℤ) : ℝ) : EReal) = _
    simp
  · show (((1 : ℤ) : ℝ) : EReal) = _
    simp

/-- The first layer of the block, at polyline `p`, point `n` and feature `k`. -/
theorem pay7_apply (v1 : Vec Ideal S9x64 .f32) (v13 : Vec Ideal S1x512x32x9 .f32) (v15 : Vec Ideal S1x512x32 .i32)
    (p : Fin 512) (x : Fin 32 → Fin 9 → ℝ) (μ : Fin 32 → ℝ) (w : Fin 9 → Fin 64 → EReal)
    (h1 : ∀ c k, v1 (ix2 c k) = w c k) (h13 : ∀ n c, v13 (ix4 0 p n c) = (x n c : EReal))
    (h15 : ∀ n, k0_pay6 (F := Ideal) v15 (ix3 p n 0) = (μ n : EReal)) (n : Fin 32) (k : Fin 64) :
    k0_pay7 (F := Ideal) v1 v13 v15 (ix3 p n k) = (lay1 x μ w n k : EReal) := by
  pointwise [k0_pay7, k0_pay2]
  simp only [h1, h13, h15, word_inv64, word_eps, cw_eq, kernel_layer]
  rw [← EReal.coe_mul, lay1]

/-- The rest of the block up to the code of polyline `p`, from its first layer. -/
theorem pay9_apply (v7 v9 v12 : FVec Ideal S64x64 .f32) (v20 : FVec Ideal S512x32x1 .f32) (v32 : FVec Ideal S512x32x64 .f32)
    (p : Fin 512) (f : Fin 32 → Fin 64 → ℝ) (μ : Fin 32 → ℝ) (wa wb w3 : Fin 64 → Fin 64 → EReal)
    (h7 : ∀ i k, v7 (ix2 i k) = cw (wa i) k) (h9 : ∀ i k, v9 (ix2 i k) = cw (wb i) k)
    (h12 : ∀ i k, v12 (ix2 i k) = cw (w3 i) k) (h20 : ∀ n, v20 (ix3 p n 0) = (μ n : EReal))
    (h32 : ∀ n k, v32 (ix3 p n k) = (f n k : EReal)) (k : Fin 64) :
    k0_pay9 (F := Ideal) k0_pay2 v7 v9 v12 v20 v32 (ix2 p k) = (code (lay3 (lay2 f wa wb) μ w3) k : EReal) := by
  pointwise [k0_pay9, k0_pay2]
  simp only [h7, h9, h12, h20, h32, word_inv64, word_eps, word_bot, fold_rows, kernel_layer, kernel_layer2, fold_layer, cen_coe, nrm_coe]
  rfl

/-- The largest mask entry of polyline `p`. -/
theorem pay8_apply (v20 : FVec Ideal S512x32x1 .f32) (p : Fin 512) (μ : Fin 32 → ℝ) (h20 : ∀ n, v20 (ix3 p n 0) = (μ n : EReal)) :
    k0_pay8 (F := Ideal) v20 (ix2 p 0) = (big μ : EReal) := by
  pointwise [k0_pay8]
  simp only [h20, word_bot, fold_max]

/-- The block's result at polyline `p` and output `o`. -/
theorem pay1_apply (v63 : FVec Ideal S512x1 .f32) (v73 : FVec Ideal S512x64 .f32) (v74 : Vec Ideal S64x128 .f32)
    (p : Fin 512) (o : Fin 128) :
    k0_pay1 (F := Ideal) v63 v73 v74 (ix3 0 p o) = (∑ k : Fin 64, v73 (ix2 p k) * v74 (ix2 k o)) * v63 (ix2 p 0) := by
  pointwise [k0_pay1]

end PolylineEncoder.Block
-- ==== Proof.KernelBlockResult.lean ====
module

public import proofs.«01_k».proof.Proof.KernelBlock

@[expose] public section

set_option maxRecDepth 16384

noncomputable section

/-! # One block of the kernel is the specification's result

The steps of a block put together. -/

namespace PolylineEncoder.Block

open Cert.KernelIdeal Cert.KernelIdeal.Gen Idealize.ShloMosaic
open scoped BigOperators

/-- The whole block at polyline `p` and output `o`, where the block's row `p` is the arrays' polyline `(b, q)` and the other
    operands are the arrays. -/
theorem block_apply (X : FVec Ideal ⟨4, ![32, 1024, 32, 9]⟩ .f32) (M : IVec ⟨3, ![32, 1024, 32]⟩ 1) (W1 : FVec Ideal ⟨2, ![9, 64]⟩ .f32)
    (W2 : FVec Ideal ⟨2, ![128, 64]⟩ .f32) (W3 : FVec Ideal ⟨2, ![64, 64]⟩ .f32) (W4 : FVec Ideal ⟨2, ![64, 128]⟩ .f32)
    (b : Fin 32) (q : Fin 1024) (p : Fin 512) (o : Fin 128)
    (x0 : Vec Ideal S1x512x32x9 .f32) (x1 : Vec Ideal S1x512x32 .i32) (x2 : Vec Ideal S9x64 .f32) (xa xb : Vec Ideal S64x64 .f32)
    (x4 : Vec Ideal S64x64 .f32) (x5 : Vec Ideal S64x128 .f32)
    (h0 : ∀ n c, x0 (ix4 0 p n c) = (points X b q n c : EReal)) (h1 : ∀ n, x1 (ix3 0 p n) = (M (ix3 b q n)).setWidth 32)
    (h2 : ∀ c k, x2 (ix2 c k) = mat W1 c k) (ha : ∀ i k, xa (ix2 i k) = upper W2 i k)
    (hb : ∀ i k, xb (ix2 i k) = lower W2 i k) (h4 : ∀ i k, x4 (ix2 i k) = mat W3 i k)
    (h5 : ∀ k, x5 (ix2 k o) = W4 (ix2 k o)) :
    k0_pay1 (F := Ideal) (k0_pay8 (k0_pay6 x1)) (k0_pay9 k0_pay2 (k0_pay3 xa) (k0_pay4 xb) (k0_pay5 x4) (k0_pay6 x1) (k0_pay7 x2 x0 x1)) x5
        (ix3 0 p o)
      = target X M W1 W2 W3 W4 b q o := by
  have hm : ∀ n, k0_pay6 (F := Ideal) x1 (ix3 p n 0) = (mask M b q n : EReal) := fun n => pay6_apply x1 p n _ (h1 n)
  have hz : ∀ k, k0_pay9 (F := Ideal) k0_pay2 (k0_pay3 xa) (k0_pay4 xb) (k0_pay5 x4) (k0_pay6 x1) (k0_pay7 x2 x0 x1) (ix2 p k)
      = (enc (points X b q) (mask M b q) (mat W1) (upper W2) (lower W2) (mat W3) k : EReal) := fun k =>
    pay9_apply _ _ _ _ _ p (lay1 (points X b q) (mask M b q) (mat W1)) (mask M b q) (upper W2) (lower W2) (mat W3)
      (pay3_apply _ _ ha) (pay4_apply _ _ hb) (pay5_apply _ _ h4) hm (pay7_apply _ _ _ p _ _ _ h2 h0 hm) k
  refine (pay1_apply _ _ _ p o).trans ?_
  unfold target
  refine congrArg₂ (fun a b : EReal => a * b) (Finset.sum_congr rfl fun k _ => ?_) (pay8_apply _ p _ hm)
  exact congrArg₂ (fun a b : EReal => a * b) (hz k) (h5 k)

end PolylineEncoder.Block
-- ==== Proof.KernelArray.lean ====
module

public import proofs.«01_k».proof.Proof.KernelBlockResult
public import Idealize.ShloMosaic.Lib.Pipeline.ValueKit
public import Idealize.ShloMosaic.Lib.Claim

@[expose] public section

set_option maxRecDepth 16384

noncomputable section

/-! # What the kernel's result array holds

The grid has 32 by 2 points. Point `t` reads and writes the block of polylines `512 (t mod 2) …` of batch entry `t / 2`, and
the blocks fill the result array. -/

namespace PolylineEncoder.Array

open Cert.KernelIdeal Cert.KernelIdeal.Gen Idealize.ShloMosaic Idealize.ShloMosaic.TcCoe Idealize.SL.Sem
open Idealize.ShloMosaic.Pipeline (Dat)
open scoped BigOperators

variable (m : (ℓ : Loc nD τ sig) → Buf (Elt Ideal) ℓ)

/-- Which block each window shows at grid point `t`. -/
theorem idx : ∀ t : Fin cfg0.N, win0_0.index t = ![t.val / 2, t.val % 2, 0, 0] ∧ win0_1.index t = ![t.val / 2, t.val % 2, 0]
    ∧ win0_2.index t = ![0, 0] ∧ win0_3.index t = ![0, 0] ∧ win0_4.index t = ![0, 0] ∧ win0_5.index t = ![0, 0]
    ∧ win0_6.index t = ![t.val / 2, t.val % 2, 0] ∧ t.val / 2 < 32 :=
  (by decide +kernel : ∀ t : Fin grid0.N, _)

set_option maxHeartbeats 800000 in
/-- The result array after the run, where the points are real numbers. -/
theorem final (c : Dev nD)
    (hx : Real (m ((c : Thread nD τ).loc main_arg0))) :
    (dats m 0 c).arrAt 6 cfg0.N = fun i => target (m ((c : Thread nD τ).loc main_arg0)) (m ((c : Thread nD τ).loc main_arg1))
      (m ((c : Thread nD τ).loc main_arg2)) (m ((c : Thread nD τ).loc main_arg6)) (m ((c : Thread nD τ).loc main_arg10))
      (m ((c : Thread nD τ).loc main_arg16)) (i 0) (i 1) (i 2) := by
  refine (dats m 0 c).arrAt_eq_of_covers 6 _ (by decide +kernel) fun t _ y => ?_
  blk_simp
  rw [after0_6]
  unfold_out out0_6
  simp only [k0_pay10]
  frame_out
  have ht := (idx t).2.2.2.2.2.2.2
  obtain ⟨z, p, o, rfl⟩ : ∃ (z : Fin 1) (p : Fin 512) (o : Fin 128), y = ix3 z p o := ⟨y 0, y 1, y 2, eq_ix3 y⟩
  obtain rfl : z = 0 := Subsingleton.elim _ _
  have e0 : (((View.whole main_v1).slice (win0_6.rect t)).emb (ix3 0 p o) 0) = (⟨t.val / 2, ht⟩ : Fin 32) := by
    apply Fin.ext; blk_simp [idx t]; simp
  have e1 : (((View.whole main_v1).slice (win0_6.rect t)).emb (ix3 0 p o) 1) = (⟨t.val % 2 * 512 + p.val, by omega⟩ : Fin 1024) := by
    apply Fin.ext; blk_simp [idx t]
  have e2 : (((View.whole main_v1).slice (win0_6.rect t)).emb (ix3 0 p o) 2) = o := by
    apply Fin.ext; blk_simp [idx t]
  rw [e0, e1, e2]
  refine Block.block_apply _ _ _ _ _ _ _ _ p o _ _ _ _ _ _ _ (fun n k => ?_) (fun n => ?_) (fun i k => ?_) (fun i k => ?_)
    (fun i k => ?_) (fun i k => ?_) (fun k => ?_)
  · rw [points, ← hx]; blk_ext [iblk, V, idx t]
  · blk_simp [iblk, idx t]; entry_read; pointwise
    refine congrArg (BitVec.setWidth 32) (congrArg (m ((c : Thread nD τ).loc main_arg1)) (funext fun d => ?_))
    fin_cases d <;> apply Fin.ext <;> blk_simp [idx t] <;> simp
  · rw [mat]; blk_ext [iblk, V, idx t]
  · rw [upper, mat]; pointwise; blk_ext [iblk, V, idx t]
  · rw [lower, mat]; pointwise; blk_ext [iblk, V, idx t]
  · rw [mat]; blk_ext [iblk, V, idx t]
  · blk_ext [iblk, V, idx t]

end PolylineEncoder.Array
-- ==== Proof.RefValue.lean ====
module

public import proofs.«01_k».proof.Proof.Gen.ReferenceIdeal.Run
public import proofs.«01_k».proof.Proof.Target
public import Idealize.ShloMosaic.Lib.Tactic.CleanTypes

@[expose] public section

set_option maxRecDepth 16384

noncomputable section

/-! # What the reference computes

Layer by layer, each named term of the reference's run is the specification's real number at every index. -/

namespace PolylineEncoder.Ref

open Cert.ReferenceIdeal Cert.ReferenceIdeal.Gen Cert.ReferenceIdeal.Value Idealize.ShloMosaic Idealize.ShloMosaic.TcCoe
open Idealize.SL.Sem Idealize.ShloMosaic.StableHlo
open scoped BigOperators

variable (V0 : Valuation τ sig (Elt Ideal))

/-- The arguments that the specification reads, named. -/
abbrev aX : FVec Ideal S32x1024x32x9 .f32 := V0 (Proc.devRef .tc main_arg0)
abbrev aM : IVec S32x1024x32 1 := V0 (Proc.devRef .tc main_arg1)
abbrev aW1 : FVec Ideal S9x64 .f32 := V0 (Proc.devRef .tc main_arg2)
abbrev aW2 : FVec Ideal S128x64 .f32 := V0 (Proc.devRef .tc main_arg6)
abbrev aW3 : FVec Ideal S64x64 .f32 := V0 (Proc.devRef .tc main_arg10)
abbrev aW4 : FVec Ideal S64x128 .f32 := V0 (Proc.devRef .tc main_arg16)

/-- What is assumed of the arguments: real points, zero biases and shifts, gains of one. -/
structure Plain : Prop where
  x : Real (aX V0)
  b1 : ∀ o, (V0 (Proc.devRef .tc main_arg3) : FVec Ideal S64 .f32) (ix1 o) = (0 : EReal)
  b2 : ∀ o, (V0 (Proc.devRef .tc main_arg7) : FVec Ideal S64 .f32) (ix1 o) = (0 : EReal)
  b3 : ∀ o, (V0 (Proc.devRef .tc main_arg11) : FVec Ideal S64 .f32) (ix1 o) = (0 : EReal)
  b4 : ∀ o, (V0 (Proc.devRef .tc main_arg17) : FVec Ideal S128 .f32) (ix1 o) = (0 : EReal)
  g1 : ∀ o, (V0 (Proc.devRef .tc main_arg4) : FVec Ideal S64 .f32) (ix1 o) = (1 : EReal)
  g2 : ∀ o, (V0 (Proc.devRef .tc main_arg8) : FVec Ideal S64 .f32) (ix1 o) = (1 : EReal)
  g3 : ∀ o, (V0 (Proc.devRef .tc main_arg12) : FVec Ideal S64 .f32) (ix1 o) = (1 : EReal)
  g4 : ∀ o, (V0 (Proc.devRef .tc main_arg14) : FVec Ideal S64 .f32) (ix1 o) = (1 : EReal)
  s1 : ∀ o, (V0 (Proc.devRef .tc main_arg5) : FVec Ideal S64 .f32) (ix1 o) = (0 : EReal)
  s2 : ∀ o, (V0 (Proc.devRef .tc main_arg9) : FVec Ideal S64 .f32) (ix1 o) = (0 : EReal)
  s3 : ∀ o, (V0 (Proc.devRef .tc main_arg13) : FVec Ideal S64 .f32) (ix1 o) = (0 : EReal)
  s4 : ∀ o, (V0 (Proc.devRef .tc main_arg15) : FVec Ideal S64 .f32) (ix1 o) = (0 : EReal)

/-- The rows that the three layers take, and what they give, at polyline `(b, p)`. -/
def val1 (b : Fin 32) (p : Fin 1024) : Fin 32 → Fin 64 → ℝ := lay1 (points (aX V0) b p) (mask (aM V0) b p) (mat (aW1 V0))
def pair2 (b : Fin 32) (p : Fin 1024) (n : Fin 32) : Fin 64 ⊕ Fin 64 → ℝ := Sum.elim (val1 V0 b p n) (bigs (val1 V0 b p))
def wts2 : Fin 64 ⊕ Fin 64 → Fin 64 → EReal := Sum.elim (upper (aW2 V0)) (lower (aW2 V0))
def val2 (b : Fin 32) (p : Fin 1024) : Fin 32 → Fin 64 → ℝ := lay2 (val1 V0 b p) (upper (aW2 V0)) (lower (aW2 V0))
def val3 (b : Fin 32) (p : Fin 1024) : Fin 32 → Fin 64 → ℝ := lay3 (val2 V0 b p) (mask (aM V0) b p) (mat (aW3 V0))

variable {V0}

/-- The mask as a number. -/
theorem v1_apply (b : Fin 32) (p : Fin 1024) (n : Fin 32) :
    (res_main_v1 V0 : FVec Ideal S32x1024x32x1 .f32) (ix4 b p n 0) = (mask (aM V0) b p n : EReal) := by
  unfold res_main_v1
  clean_types
  pointwise
  rfl

variable (h : Plain V0)
include h

/-- The first product. -/
theorem v5_apply (b : Fin 32) (p : Fin 1024) (n : Fin 32) (o : Fin 64) :
    (res_main_v5 V0 : FVec Ideal S32x1024x32x64 .f32) (ix4 b p n o) = prod (points (aX V0) b p n) (mat (aW1 V0)) o := by
  have hx : ∀ c, (V0 (Proc.devRef .tc main_arg0) : FVec Ideal S32x1024x32x9 .f32) (ix4 b p n c) = (points (aX V0) b p n c : EReal) :=
    fun c => h.x _
  unfold res_main_v5
  clean_types
  pointwise
  simp only [h.b1, hx, add_zero]
  rfl

/-- The first product less its mean. -/
theorem c5_apply (b : Fin 32) (p : Fin 1024) (n : Fin 32) (o : Fin 64) :
    (res_main_v11 V0 : FVec Ideal S32x1024x32x64 .f32) (ix4 b p n o) = dev (prod (points (aX V0) b p n) (mat (aW1 V0))) o := by
  unfold res_main_v11 res_main_v9
  clean_types
  pointwise
  simp only [v5_apply h, word_64, dev_eq]

/-- The first layer. -/
theorem v32_apply (b : Fin 32) (p : Fin 1024) (n : Fin 32) (o : Fin 64) :
    (res_main_v32 V0 : FVec Ideal S32x1024x32x64 .f32) (ix4 b p n o) = (val1 V0 b p n o : EReal) := by
  unfold res_main_v32 res_main_v9
  clean_types
  pointwise
  simp only [v5_apply h, c5_apply h, v1_apply, h.g1, h.s1, mul_one, add_zero, word_64, word_eps, dev_eq, reference_layer]
  rw [← EReal.coe_mul, val1, lay1]

/-- The second product. -/
theorem v40_apply (b : Fin 32) (p : Fin 1024) (n : Fin 32) (o : Fin 64) :
    (res_main_v40 V0 : FVec Ideal S32x1024x32x64 .f32) (ix4 b p n o) = prod (pair2 V0 b p n) (wts2 V0) o := by
  unfold res_main_v40
  clean_types
  pointwise
  simp only [h.b2, v32_apply h, word_bot, add_zero, fold_rows]
  exact prod_add (val1 V0 b p n) (bigs (val1 V0 b p)) (upper (aW2 V0)) (lower (aW2 V0)) o

/-- The second product less its mean. -/
theorem c40_apply (b : Fin 32) (p : Fin 1024) (n : Fin 32) (o : Fin 64) :
    (res_main_v46 V0 : FVec Ideal S32x1024x32x64 .f32) (ix4 b p n o) = dev (prod (pair2 V0 b p n) (wts2 V0)) o := by
  unfold res_main_v46 res_main_v44
  clean_types
  pointwise
  simp only [v40_apply h, word_64, dev_eq]

/-- The third product, of the second layer. -/
theorem v69_apply (b : Fin 32) (p : Fin 1024) (n : Fin 32) (o : Fin 64) :
    (res_main_v69 V0 : FVec Ideal S32x1024x32x64 .f32) (ix4 b p n o) = prod (val2 V0 b p n) (mat (aW3 V0)) o := by
  unfold res_main_v69 res_main_v44
  clean_types
  pointwise
  simp only [v40_apply h, c40_apply h, h.g2, h.s2, h.b3, mul_one, add_zero, word_64, word_eps, dev_eq, reference_layer]
  rfl

/-- The third product less its mean. -/
theorem c69_apply (b : Fin 32) (p : Fin 1024) (n : Fin 32) (o : Fin 64) :
    (res_main_v75 V0 : FVec Ideal S32x1024x32x64 .f32) (ix4 b p n o) = dev (prod (val2 V0 b p n) (mat (aW3 V0))) o := by
  unfold res_main_v75 res_main_v73
  clean_types
  pointwise
  simp only [v69_apply h, word_64, dev_eq]

/-- The largest of the third layer. -/
theorem v97_apply (b : Fin 32) (p : Fin 1024) (o : Fin 64) :
    (res_main_v97 V0 : FVec Ideal S32x1024x64 .f32) (ix3 b p o) = (bigs (val3 V0 b p) o : EReal) := by
  unfold res_main_v97 res_main_v73
  clean_types
  pointwise
  simp only [v69_apply h, c69_apply h, v1_apply, h.g3, h.s3, mul_one, add_zero, word_64, word_eps, word_bot, dev_eq,
    reference_layer, fold_layer]
  rfl

end PolylineEncoder.Ref
-- ==== Proof.Flag.lean ====
module

public import proofs.«01_k».proof.Proof.Spec

@[expose] public section

noncomputable section

/-! # The flag of a polyline with at least one point

The reference counts the mask's bits and compares with zero; the kernel takes the largest bit. -/

namespace PolylineEncoder

open Idealize.ShloMosaic
open scoped BigOperators

/-- Adding up bits in 32-bit words loses nothing, as there are few of them. -/
theorem count_toNat (f : Fin 32 → BitVec 1) (t : Finset (Fin 32)) :
    (t.fold IntOp.addi 0#32 fun n => (f n).setWidth 32).toNat = ∑ n ∈ t, (f n).toNat ∧ ∑ n ∈ t, (f n).toNat ≤ t.card := by
  induction t using Finset.induction_on with
  | empty => simp
  | insert a t ha ih =>
    obtain ⟨h1, h2⟩ := ih
    have hc : t.card ≤ 32 := by simpa using Finset.card_le_univ t
    have hb : (f a).toNat < 2 := (f a).isLt
    rw [Finset.fold_insert ha, Finset.sum_insert ha, Finset.card_insert_of_notMem ha]
    refine ⟨?_, by omega⟩
    rw [IntOp.addi, BitVec.toNat_add, h1, BitVec.toNat_setWidth]
    omega

theorem float_nat {w : ℕ} (x : BitVec w) : (FloatOps.uitofp .f32 x : Ideal .f32) = ((x.toNat : ℝ) : EReal) := rfl

theorem sgt_zero (x : BitVec 32) (h : x.toNat ≤ 32) :
    IntOp.cmpi CmpIPredicate.sgt x 0#32 = BitVec.ofBool (decide (0 < x.toNat)) := by
  change BitVec.ofBool (BitVec.slt 0#32 x) = _
  rw [BitVec.slt_eq_decide, BitVec.toInt_eq_toNat_of_lt (x := x) (by omega)]
  simp

/-- A small word compared with zero, as a real number. -/
theorem flag_word (x : BitVec 32) (k : ℕ) (hx : x.toNat = k) (hk : k ≤ 32) :
    (FloatOps.uitofp .f32 (IntOp.cmpi CmpIPredicate.sgt x 0#32) : Ideal .f32) = (((if 0 < k then 1 else 0) : ℝ) : EReal) := by
  rw [float_nat, sgt_zero x (by omega), hx]
  by_cases h : 0 < k <;> simp [h]

/-- The largest bit is one exactly if the bits' sum is positive. -/
theorem big_bits (f : Fin 32 → BitVec 1) :
    ((if 0 < ∑ n, (f n).toNat then 1 else 0) : ℝ) = big fun n => ((f n).toNat : ℝ) := by
  have hlt : ∀ n, (f n).toNat < 2 := fun n => (f n).isLt
  rw [big]
  by_cases h : 0 < ∑ n, (f n).toNat
  · rw [if_pos h]
    obtain ⟨n, -, hn⟩ := Finset.exists_ne_zero_of_sum_ne_zero (Nat.pos_iff_ne_zero.mp h)
    have h1 : (f n).toNat = 1 := by have := hlt n; omega
    refine le_antisymm ?_ (Finset.sup'_le _ _ fun k _ => ?_)
    · refine le_trans ?_ (Finset.le_sup' (fun n => ((f n).toNat : ℝ)) (Finset.mem_univ n))
      simp only [h1, Nat.cast_one, le_refl]
    · have := hlt k
      exact_mod_cast (by omega : (f k).toNat ≤ 1)
  · rw [if_neg h]
    have h0 : ∀ n, (f n).toNat = 0 := fun n =>
      Finset.sum_eq_zero_iff.mp (Nat.eq_zero_of_not_pos h) n (Finset.mem_univ n)
    simp only [h0, Nat.cast_zero, Finset.sup'_const]

/-- The reference's flag is the largest bit of the mask. -/
theorem flag (f : Fin 32 → BitVec 1) :
    (FloatOps.uitofp .f32 (IntOp.cmpi CmpIPredicate.sgt (Finset.univ.fold IntOp.addi 0#32 fun n => (f n).setWidth 32) 0#32)
      : Ideal .f32) = ((big fun n => ((f n).toNat : ℝ) : ℝ) : EReal) :=
  (flag_word _ _ (count_toNat f Finset.univ).1 ((count_toNat f Finset.univ).2.trans (by simp))).trans
    (congrArg Real.toEReal (big_bits f))

end PolylineEncoder
-- ==== Proof.RefResult.lean ====
module

public import proofs.«01_k».proof.Proof.RefValue
public import proofs.«01_k».proof.Proof.Flag

@[expose] public section

set_option maxRecDepth 16384

noncomputable section

/-! # The reference's result

The last layer norm, the output product and the flag of a polyline with at least one point: the reference's result is the
specification's at every index. -/

namespace PolylineEncoder.Ref

open Cert.ReferenceIdeal Cert.ReferenceIdeal.Gen Cert.ReferenceIdeal.Value Idealize.ShloMosaic Idealize.ShloMosaic.TcCoe
open Idealize.SL.Sem Idealize.ShloMosaic.StableHlo
open scoped BigOperators

/-! ## The last layer norm and the product -/

/-- A row less its mean, for any array. -/
theorem centred_apply (x : FVec Ideal S32x1024x64 .f32) (b : Fin 32) (p : Fin 1024) (o : Fin 64) :
    (subf x (broadcastInDim S32x1024x64 ![0, 1, 2] bcast_S32x1024x1_S32x1024x64_0_1_2 (Host.divf (broadcastInDim S32x1024x1 ![0, 1] bcast_S32x1024_S32x1024x1_0_1 (Host.reduceAdd x (constant S_ .f32 0x00000000#32) reducesTo_S32x1024x64_S32x1024_d2 h_S_)) (broadcastInDim S32x1024x1 ![] bcast_S_S32x1024x1 (constant S_ .f32 0x42800000#32)))) : FVec Ideal S32x1024x64 .f32) (ix3 b p o)
      = x (ix3 b p o) - Ideal.div (∑ k, x (ix3 b p k)) (Ideal.ofBits .f32 0x42800000#32) := by
  pointwise

/-- The end of the reference as it stands, for any arrays. -/
abbrev tail (x d : FVec Ideal S32x1024x64 .f32) (μ : FVec Ideal S32x1024x1 .f32) (g s : FVec Ideal S64 .f32)
    (W4 : FVec Ideal S64x128 .f32) (b4 : FVec Ideal S128 .f32) (M : IVec S32x1024x32 1) : FVec Ideal S32x1024x128 .f32 :=
  mulf (addf (Host.dotGeneral dot_S32x1024x64_S64x128_S32x1024x128_2_0_01_1_n_n none (maximumf (addf (mulf (Host.divf (subf x (broadcastInDim S32x1024x64 ![0, 1, 2] bcast_S32x1024x1_S32x1024x64_0_1_2 μ)) (broadcastInDim S32x1024x64 ![0, 1, 2] bcast_S32x1024x1_S32x1024x64_0_1_2 (Host.sqrt (addf (Host.divf (broadcastInDim S32x1024x1 ![0, 1] bcast_S32x1024_S32x1024x1_0_1 (Host.reduceAdd (mulf d d) (constant S_ .f32 0x00000000#32) reducesTo_S32x1024x64_S32x1024_d2 h_S_)) (broadcastInDim S32x1024x1 ![] bcast_S_S32x1024x1 (constant S_ .f32 0x42800000#32))) (broadcastInDim S32x1024x1 ![] bcast_S_S32x1024x1 (constant S_ .f32 0x3727C5AC#32)))))) (broadcastInDim S32x1024x64 ![0, 1, 2] bcast_S1x1x64_S32x1024x64_0_1_2 (broadcastInDim S1x1x64 ![2] bcast_S64_S1x1x64_2 g))) (broadcastInDim S32x1024x64 ![0, 1, 2] bcast_S1x1x64_S32x1024x64_0_1_2 (broadcastInDim S1x1x64 ![2] bcast_S64_S1x1x64_2 s))) (broadcastInDim S32x1024x64 ![] bcast_S_S32x1024x64 (constant S_ .f32 0x00000000#32))) W4) (broadcastInDim S32x1024x128 ![0, 1, 2] bcast_S1x1x128_S32x1024x128_0_1_2 (broadcastInDim S1x1x128 ![2] bcast_S128_S1x1x128_2 b4))) (broadcastInDim S32x1024x128 ![0, 1, 2] bcast_S32x1024x1_S32x1024x128_0_1_2 (broadcastInDim S32x1024x1 ![0, 1] bcast_S32x1024_S32x1024x1_0_1 (uitofp .f32 (cmpi .sgt (Host.reduce IntOp.addi (extui 32 M natLt_1_32) (constantI S_ 32 0#32) reducesTo_S32x1024x32_S32x1024_d2 h_S_) (broadcastInDim S32x1024 ![] bcast_S_S32x1024 (constantI S_ 32 0#32))))))

/-- The end of the reference at an index. -/
theorem tail_apply (x d : FVec Ideal S32x1024x64 .f32) (μ : FVec Ideal S32x1024x1 .f32) (g s : FVec Ideal S64 .f32)
    (W4 : FVec Ideal S64x128 .f32) (b4 : FVec Ideal S128 .f32) (M : IVec S32x1024x32 1) (b : Fin 32) (p : Fin 1024) (o : Fin 128) :
    tail x d μ g s W4 b4 M (ix3 b p o)
      = (∑ k, max (Ideal.div (x (ix3 b p k) - μ (ix3 b p 0)) (Ideal.sqrt (Ideal.div (∑ j, d (ix3 b p j) * d (ix3 b p j))
            (Ideal.ofBits .f32 0x42800000#32) + Ideal.ofBits .f32 0x3727C5AC#32)) * g (ix1 k) + s (ix1 k)) 0 * W4 (ix2 k o)
          + b4 (ix1 o)) * ((big (mask M b p) : ℝ) : EReal) := by
  unfold tail
  pointwise
  rw [flag]
  rfl

/-- The mean of a row, for any array. -/
theorem mean_apply (x : FVec Ideal S32x1024x64 .f32) (b : Fin 32) (p : Fin 1024) :
    (Host.divf (broadcastInDim S32x1024x1 ![0, 1] bcast_S32x1024_S32x1024x1_0_1 (Host.reduceAdd x (constant S_ .f32 0x00000000#32) reducesTo_S32x1024x64_S32x1024_d2 h_S_)) (broadcastInDim S32x1024x1 ![] bcast_S_S32x1024x1 (constant S_ .f32 0x42800000#32)) : FVec Ideal S32x1024x1 .f32) (ix3 b p 0)
      = Ideal.div (∑ k, x (ix3 b p k)) (Ideal.ofBits .f32 0x42800000#32) := by
  pointwise

variable {V0 : Valuation τ sig (Elt Ideal)} (h : Plain V0)
include h

/-- The last layer norm's centred row. -/
theorem c97_apply (b : Fin 32) (p : Fin 1024) (o : Fin 64) :
    (res_main_v109 V0 : FVec Ideal S32x1024x64 .f32) (ix3 b p o) = (cen (bigs (val3 V0 b p)) o : EReal) := by
  refine (centred_apply (res_main_v97 V0) b p o).trans ?_
  simp only [v97_apply h, word_64, mean_coe]

/-- The last layer norm's mean. -/
theorem m97_apply (b : Fin 32) (p : Fin 1024) :
    (res_main_v107 V0 : FVec Ideal S32x1024x1 .f32) (ix3 b p 0)
      = Ideal.div (∑ k, (bigs (val3 V0 b p) k : EReal)) ((64 : ℝ) : EReal) := by
  refine (mean_apply (res_main_v97 V0) b p).trans ?_
  simp only [v97_apply h, word_64]

/-- The reference's result. -/
theorem result :
    tail (res_main_v97 V0) (res_main_v109 V0) (res_main_v107 V0) (V0 (Proc.devRef .tc main_arg14)) (V0 (Proc.devRef .tc main_arg15))
        (V0 (Proc.devRef .tc main_arg16)) (V0 (Proc.devRef .tc main_arg17)) (V0 (Proc.devRef .tc main_arg1))
      = fun i => target (aX V0) (aM V0) (aW1 V0) (aW2 V0) (aW3 V0) (aW4 V0) (i 0) (i 1) (i 2) := by
  funext i
  obtain ⟨b, p, o, rfl⟩ : ∃ (b : Fin 32) (p : Fin 1024) (o : Fin 128), i = ix3 b p o := ⟨i 0, i 1, i 2, eq_ix3 i⟩
  refine (tail_apply (res_main_v97 V0) (res_main_v109 V0) (res_main_v107 V0) _ _ _ _ _ b p o).trans ?_
  simp only [v97_apply h, c97_apply h, m97_apply h, h.g4, h.s4, h.b4, mul_one, add_zero, word_64, word_eps, mean_coe, div_sqrt_coe]
  rfl

end PolylineEncoder.Ref
-- ==== Proof.Equal.lean ====
module

public import proofs.«01_k».proof.Defs
public import proofs.«01_k».proof.Proof.Precondition
public import proofs.«01_k».proof.Proof.KernelArray
public import proofs.«01_k».proof.Proof.RefResult
public import proofs.«01_k».proof.Proof.Gen.KernelIdeal
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_initial_affine

@[expose] public section

set_option maxRecDepth 16384

noncomputable section

/-! # The two programs' results are equal

Under the precondition both programs end holding the specification's array. -/

namespace PolylineEncoder.Equal

open Idealize.ShloMosaic Idealize.ShloMosaic.TcCoe Idealize.SL.Sem Idealize.ShloMosaic.StableHlo

open Cert.KernelIdeal in
/-- What the precondition says of the kernel's arguments on one device. -/
structure Args (m : (ℓ : Loc nD τ sig) → Buf (Elt Ideal) ℓ) (c : Dev nD) : Prop where
  x : Real (m ((c.tc : Thread nD τ).loc main_arg0))
  b1 : m ((c.tc : Thread nD τ).loc main_arg3) = fun _ => Ideal.ofBits .f32 0x00000000#32
  b2 : m ((c.tc : Thread nD τ).loc main_arg7) = fun _ => Ideal.ofBits .f32 0x00000000#32
  b3 : m ((c.tc : Thread nD τ).loc main_arg11) = fun _ => Ideal.ofBits .f32 0x00000000#32
  b4 : m ((c.tc : Thread nD τ).loc main_arg17) = fun _ => Ideal.ofBits .f32 0x00000000#32
  g1 : m ((c.tc : Thread nD τ).loc main_arg4) = fun _ => Ideal.ofBits .f32 0x3F800000#32
  g2 : m ((c.tc : Thread nD τ).loc main_arg8) = fun _ => Ideal.ofBits .f32 0x3F800000#32
  g3 : m ((c.tc : Thread nD τ).loc main_arg12) = fun _ => Ideal.ofBits .f32 0x3F800000#32
  g4 : m ((c.tc : Thread nD τ).loc main_arg14) = fun _ => Ideal.ofBits .f32 0x3F800000#32
  s1 : m ((c.tc : Thread nD τ).loc main_arg5) = fun _ => Ideal.ofBits .f32 0x00000000#32
  s2 : m ((c.tc : Thread nD τ).loc main_arg9) = fun _ => Ideal.ofBits .f32 0x00000000#32
  s3 : m ((c.tc : Thread nD τ).loc main_arg13) = fun _ => Ideal.ofBits .f32 0x00000000#32
  s4 : m ((c.tc : Thread nD τ).loc main_arg15) = fun _ => Ideal.ofBits .f32 0x00000000#32

open Cert.KernelIdeal Cert.Pre_initial_affine.Gen in
theorem args (m : (ℓ : Loc nD τ sig) → Buf (Elt Ideal) ℓ) (h : Cert.Pre_KernelIdeal_initial_affine m) (c : Dev nD) : Args m c := by
  obtain ⟨hx, hb1, hb2, hb3, hb4, hg1, hg2, hg3, hg4, hs1, hs2, hs3, hs4⟩ := h c
  exact {
    x := Pre.real_of_finite bcast_S_S32x1024x32x9 _ hx
    b1 := funext (Pre.eq_of_oeq bcast_S_S64 _ _ hb1)
    b2 := funext (Pre.eq_of_oeq bcast_S_S64 _ _ hb2)
    b3 := funext (Pre.eq_of_oeq bcast_S_S64 _ _ hb3)
    b4 := funext (Pre.eq_of_oeq bcast_S_S128 _ _ hb4)
    g1 := funext (Pre.eq_of_oeq bcast_S_S64 _ _ hg1)
    g2 := funext (Pre.eq_of_oeq bcast_S_S64 _ _ hg2)
    g3 := funext (Pre.eq_of_oeq bcast_S_S64 _ _ hg3)
    g4 := funext (Pre.eq_of_oeq bcast_S_S64 _ _ hg4)
    s1 := funext (Pre.eq_of_oeq bcast_S_S64 _ _ hs1)
    s2 := funext (Pre.eq_of_oeq bcast_S_S64 _ _ hs2)
    s3 := funext (Pre.eq_of_oeq bcast_S_S64 _ _ hs3)
    s4 := funext (Pre.eq_of_oeq bcast_S_S64 _ _ hs4) }

theorem at_zero {n : ℕ} {a b : FVec Ideal ⟨1, ![n]⟩ .f32} (e : a = b) (h : b = fun _ => Ideal.ofBits .f32 0x00000000#32) (o : Fin n) :
    a (ix1 o) = (0 : EReal) := by
  rw [e, h, Pre.word_zero]

theorem at_one {n : ℕ} {a b : FVec Ideal ⟨1, ![n]⟩ .f32} (e : a = b) (h : b = fun _ => Ideal.ofBits .f32 0x3F800000#32) (o : Fin n) :
    a (ix1 o) = (1 : EReal) := by
  rw [e, h, Pre.word_one, EReal.coe_one]

theorem real_of_eq {s : Shape} {a b : FVec Ideal s .f32} (e : a = b) (h : Real b) : Real a := e ▸ h

theorem algebraic : Cert.algebraic_KernelIdeal_ReferenceIdeal_pre_initial_affine := by
  intro m g m' g' hpre hagree
  refine ⟨fun c => (Cert.KernelIdeal.Gen.dats m 0 c).arrAt 6 Cert.KernelIdeal.cfg0.N, ?_, ?_⟩
  · exact Cert.KernelIdeal.Value.run_blocks m g
  · refine θ_run_mono (Cert.ReferenceIdeal.Value.run m' g') fun r hr c => ⟨(hr c).1.trans ?_, (hr c).2⟩
    have a := args m hpre c
    obtain ⟨e0, e1, e2, e3, e4, e5, e6, e7, e8, e9, e10, e11, e12, e13, e14, e15, e16, e17⟩ := hagree c
    have p : Ref.Plain (launchContents m' c) := {
      x := real_of_eq e0 a.x
      b1 := at_zero e3 a.b1
      b2 := at_zero e7 a.b2
      b3 := at_zero e11 a.b3
      b4 := at_zero e17 a.b4
      g1 := at_one e4 a.g1
      g2 := at_one e8 a.g2
      g3 := at_one e12 a.g3
      g4 := at_one e14 a.g4
      s1 := at_zero e5 a.s1
      s2 := at_zero e9 a.s2
      s3 := at_zero e13 a.s3
      s4 := at_zero e15 a.s4 }
    refine (Ref.result p).trans ?_
    refine Eq.trans ?_ (Array.final m c a.x).symm
    have e0' : Ref.aX (launchContents m' c) = _ := e0
    have e1' : Ref.aM (launchContents m' c) = _ := e1
    have e2' : Ref.aW1 (launchContents m' c) = _ := e2
    have e6' : Ref.aW2 (launchContents m' c) = _ := e6
    have e10' : Ref.aW3 (launchContents m' c) = _ := e10
    have e16' : Ref.aW4 (launchContents m' c) = _ := e16
    rw [e0', e1', e2', e6', e10', e16']
    rfl

end PolylineEncoder.Equal
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_initial_affine
public import proofs.«01_k».proof.Proof.Equal
public import Idealize.ShloMosaic.Adequacy
public import Idealize.ShloMosaic.Init

@[expose] public section

noncomputable section

/-! # The certificate

The three frames, the idealised kernel's relation to the kernel, and the equality of the two results. -/

namespace Cert.Proof

open Idealize.ShloMosaic Idealize.SL.Sem

/-- The reference runs, ends, keeps its arguments and leaves no counter raised. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.Pre_initial_affine.Gen.facts,
    fun m g _ => Cert.Kernel.Gen.frame m g, fun m g _ => Cert.KernelIdeal.Gen.frame m g, fun m g _ => Cert.KernelIdeal.Gen.frame m g,
    frame_reference, fun m g _ => frame_reference m g trivial, trivial, PolylineEncoder.Equal.algebraic⟩

end Cert.Proof

end
